-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x128 : Shape := ⟨2, ![1024, 128]⟩
abbrev S100000x128 : Shape := ⟨2, ![100000, 128]⟩
abbrev S_ : Shape := ⟨0, ![]⟩

class Facts : Prop where
  bcast_S_S1024x128 : S_.BroadcastsInDim S1024x128 (![] : Fin 0 → Fin S1024x128.rank)
  bcast_S_S100000x128 : S_.BroadcastsInDim S100000x128 (![] : Fin 0 → Fin S100000x128.rank)

variable [Facts]

def fn {F : FTy → Type} [FloatOps F] (main_arg0 : FVec F S1024x128 .f32) (main_arg1 : FVec F S100000x128 .f32) : IVec S1024x128 1 × IVec S100000x128 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_v3 : FVec F S100000x128 .f32 := Host.absf main_arg1
  let main_cst_0 : FVec F S_ .f32 := constant S_ .f32 0x7F800000#32
  let main_v4 : FVec F S100000x128 .f32 := broadcastInDim S100000x128 ![] bcast_S_S100000x128 main_cst_0
  let main_v5 : IVec S100000x128 1 := cmpf .olt main_v3 main_v4
  (main_v2, main_v5)
-- ==== Kernel.lean ====
abbrev S1024x128 : Shape := ⟨2, ![1024, 128]⟩
abbrev S100000x128 : Shape := ⟨2, ![100000, 128]⟩
abbrev S1x1 : Shape := ⟨2, ![1, 1]⟩
abbrev S_ : Shape := ⟨0, ![]⟩
abbrev S20000x128 : Shape := ⟨2, ![20000, 128]⟩
abbrev S1024 : Shape := ⟨1, ![1024]⟩
abbrev S1024x1 : Shape := ⟨2, ![1024, 1]⟩
abbrev S1024x130 : Shape := ⟨2, ![1024, 130]⟩
abbrev S20000x2 : Shape := ⟨2, ![20000, 2]⟩
abbrev S20000x130 : Shape := ⟨2, ![20000, 130]⟩
abbrev S1024x20000 : Shape := ⟨2, ![1024, 20000]⟩
abbrev S20000 : Shape := ⟨1, ![20000]⟩
abbrev S1x20000 : Shape := ⟨2, ![1, 20000]⟩
abbrev S1x128 : Shape := ⟨2, ![1, 128]⟩
abbrev S1x1x20000 : Shape := ⟨3, ![1, 1, 20000]⟩
abbrev S1 : Shape := ⟨1, ![1]⟩
abbrev S1x1x1 : Shape := ⟨3, ![1, 1, 1]⟩

abbrev nBuf : Space → Nat
  | .hbm => 6
  | .vmem => 3
  | .smem => 1
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S1024x128, .f32⟩
  | .local _ .vmem, ⟨1, _⟩ => ⟨S20000x128, .f32⟩
  | .local _ .vmem, ⟨2, _⟩ => ⟨S20000x128, .f32⟩
  | .local _ .smem, ⟨0, _⟩ => ⟨S1x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S20000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1024x128 : Shape := ⟨2, ![1024, 128]⟩
abbrev S100000x128 : Shape := ⟨2, ![100000, 128]⟩
abbrev S_ : Shape := ⟨0, ![]⟩
abbrev S1024 : Shape := ⟨1, ![1024]⟩
abbrev S100000 : Shape := ⟨1, ![100000]⟩
abbrev S100000x1 : Shape := ⟨2, ![100000, 1]⟩
abbrev S1x1024 : Shape := ⟨2, ![1, 1024]⟩
abbrev S100000x1024 : Shape := ⟨2, ![100000, 1024]⟩
abbrev S128x1024 : Shape := ⟨2, ![128, 1024]⟩

abbrev nBuf : Space → Nat
  | .hbm => 29
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1024x128, .f32⟩
  | .hbm, ⟨3, _⟩ => ⟨S_, .f32⟩
  | .hbm, ⟨4, _⟩ => ⟨S1024, .f32⟩
  | .hbm, ⟨5, _⟩ => ⟨S100000x128, .f32⟩
  | .hbm, ⟨6, _⟩ => ⟨S_, .f32⟩
  | .hbm, ⟨7, _⟩ => ⟨S100000, .f32⟩
  | .hbm, ⟨8, _⟩ => ⟨S100000x1, .f32⟩
  | .hbm, ⟨9, _⟩ => ⟨S1x1024, .f32⟩
  | .hbm, ⟨10, _⟩ => ⟨S100000x1024, .f32⟩
  | .hbm, ⟨11, _⟩ => ⟨S100000x1024, .f32⟩
  | .hbm, ⟨12, _⟩ => ⟨S100000x1024, .f32⟩
  | .hbm, ⟨13, _⟩ => ⟨S128x1024, .f32⟩
  | .hbm, ⟨14, _⟩ => ⟨S100000x1024, .f32⟩
  | .hbm, ⟨15, _⟩ => ⟨S_, .f32⟩
  | .hbm, ⟨16, _⟩ => ⟨S100000x1024, .f32⟩
  | .hbm, ⟨17, _⟩ => ⟨S100000x1024, .f32⟩
  | .hbm, ⟨18, _⟩ => ⟨S100000x1024, .f32⟩
  | .hbm, ⟨19, _⟩ => ⟨S_, .f32⟩
  | .hbm, ⟨20, _⟩ => ⟨S100000x1024, .f32⟩
  | .hbm, ⟨21, _⟩ => ⟨S100000x1024, .f32⟩
  | .hbm, ⟨22, _⟩ => ⟨S100000x1024, .f32⟩
  | .hbm, ⟨23, _⟩ => ⟨S_, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Step.lean ====
/- What the kernel's body leaves in the accumulator's staging buffer, at the first point and at a later one. -/
module

public import proofs.«01_k».proof.Proof.Gen.KernelIdeal.Frame
public import Idealize.ShloMosaic.Lib.Pipeline.Value
public import Idealize.ShloMosaic.Lib.Tactic

@[expose] public section

noncomputable section

namespace Cert.Proof.Step

open Cert.KernelIdeal Cert.KernelIdeal.Gen Idealize.ShloMosaic Idealize.ShloMosaic.TcCoe Idealize.SL.Sem

variable {F : FTy → Type} [FloatOps F]

/-- The two-axis zero offset is zero on both axes. -/
theorem off_zero : (![0, 0] : Fin 2 → Nat) = fun _ => 0 := by
  funext a
  fin_cases a <;> rfl

/-- The accumulator's one index. -/
abbrev at0 : S1x1.Idx := fun a => match a with | ⟨0, _⟩ => (0 : Fin 1) | ⟨1, _⟩ => (0 : Fin 1)

/-- A later point leaves the body's arithmetic on the two blocks and the word the accumulator held. -/
theorem later (c : Dev nD) (i : grid0.Coords) (a1 : Memref sig .tc .vmem S1024x128 .f32) (h1 : a1.IsWhole)
    (a2 : Memref sig .tc .vmem S20000x128 .f32) (h2 : a2.IsWhole) (a3 : Memref sig .tc .smem S1x1 .f32) (h3 : a3.IsWhole)
    (hc : ¬cond0_0 i) (x : Vec F S1024x128 .f32) (p : Vec F S20000x128 .f32) (o : Vec F S1x1 .f32) :
    out0_B_2 c i a1 h1 a2 h2 a3 h3 hc x p o = fun _ => k0_pay1 x p (o at0) := by
  unfold out0_B_2
  rw [View.read_writes_eq_canon _ _ _ (cover0_B_2 c i a1 h1 a2 h2 a3 h3 hc x p o)]
  unfold kernelRun0_B
  dsimp only
  sl_unfold_words
  rw [View.canon_unit_zero off_zero]
  simp only [View.readAt_eq_ld, h1.read_unread, h2.read_unread, h3.read_unread, View.ld_unit_zero (S := S1024x128) off_zero,
    View.ld_unit_zero (S := S20000x128) off_zero, View.ld_unit_zero (S := S1x1) off_zero, shapeCast_self]
  funext y
  refine congrArg (k0_pay1 x p) ?_
  show o _ = o _
  refine congrArg o (funext fun a => ?_)
  match a with
  | ⟨0, _⟩ => exact Subsingleton.elim (α := Fin 1) _ _
  | ⟨1, _⟩ => exact Subsingleton.elim (α := Fin 1) _ _

/-- The first point leaves the body's arithmetic on the two blocks and the zero it has just stored. -/
theorem first (c : Dev nD) (i : grid0.Coords) (a1 : Memref sig .tc .vmem S1024x128 .f32) (h1 : a1.IsWhole)
    (a2 : Memref sig .tc .vmem S20000x128 .f32) (h2 : a2.IsWhole) (a3 : Memref sig .tc .smem S1x1 .f32) (h3 : a3.IsWhole)
    (hc : cond0_0 i) (x : Vec F S1024x128 .f32) (p : Vec F S20000x128 .f32) :
    out0_A_2 c i a1 h1 a2 h2 a3 h3 hc x p = fun _ => k0_pay1 x p (Scalar.ofBits .f32 0x00000000#32) := by
  unfold out0_A_2
  rw [View.read_writes_eq_canon _ _ _ (cover0_A_2 c i a1 h1 a2 h2 a3 h3 hc x p)]
  unfold kernelRun0_A
  dsimp only
  sl_unfold_words
  rw [View.canon_cons_unit_zero (S := S1x1) off_zero]
  simp only [View.readAt_eq_ld, h1.read_unread, h2.read_unread, View.ld_unit_zero (S := S1024x128) off_zero,
    View.ld_unit_zero (S := S20000x128) off_zero]
  rfl

end Cert.Proof.Step

end
-- ==== Proof.Array.lean ====
/- What the kernel's run leaves: the accumulator array ends at the running total after the last of the five points,
   the result buffer at that total over the row count, and the arguments as they were. Everything is stated over any
   float values, with the points' totals as a fold of the body's arithmetic over the blocks. -/
module

public import proofs.«01_k».proof.Proof.Step
public import Idealize.ShloMosaic.Lib.StableHlo.Run

@[expose] public section

noncomputable section

namespace Cert.Proof.Array

open Cert.KernelIdeal Cert.KernelIdeal.Gen Idealize.ShloMosaic Idealize.ShloMosaic.TcCoe Idealize.SL.Sem
open Cert.Proof

variable {F : FTy → Type} [FloatOps F]
variable (m : (ℓ : Loc nD τ sig) → Buf (Elt F) ℓ) (ρ : Dev nD → PrngReg)

/-- The total after point `n`: the body's arithmetic folded over the blocks of points `0, …, n`, from zero. -/
def totalAt (c : Dev nD) : (n : ℕ) → n < cfg0.N → F .f32
  | 0, h => k0_pay1 (iblk m c 0 ⟨0, h⟩) (iblk m c 1 ⟨0, h⟩) (Scalar.ofBits .f32 0x00000000#32)
  | n + 1, h => k0_pay1 (iblk m c 0 ⟨n + 1, h⟩) (iblk m c 1 ⟨n + 1, h⟩) (totalAt c n (Nat.lt_of_succ_lt h))

/-- The accumulator's staging buffer holds that total after point `n`. -/
theorem staged_eq (c : Dev nD) : ∀ (n : ℕ) (h : n < cfg0.N), outsAt0 m c n h = fun _ => totalAt m c n h
  | 0, h => (outsAt0_A m c ⟨0, h⟩ rfl).trans (Step.first ..)
  | n + 1, h => by
    have hN : cfg0.N = 5 := N_0
    have hB : ¬(⟨n + 1, h⟩ : Fin cfg0.N).val % 5 = 0 := by
      dsimp only
      omega
    rw [outsAt0_B m c ⟨n + 1, h⟩ hB, Step.later]
    have e : outsAt0 m c ((⟨n + 1, h⟩ : Fin cfg0.N).val - 1) (Nat.lt_of_le_of_lt (Nat.sub_le _ _) h) = fun _ => totalAt m c n (Nat.lt_of_succ_lt h) :=
      staged_eq c n _
    rw [e]
    rfl

/-- The grand total, after the last point. -/
abbrev grand (c : Dev nD) : F .f32 := totalAt m c 4 (by rw [show cfg0.N = 5 from N_0]; decide)

/-- The accumulator array holding the grand total. -/
abbrev accum (c : Dev nD) : Buf (Elt F) ((c : Thread nD τ).loc main_call0_v0) := fun _ => grand m c

/-- The only write-back, at the last point, writes the grand total. -/
theorem written (c : Dev nD) (t : Fin cfg0.N) (hf : (cfg0.win 2).flush t = true) :
    (dats m 0 c).flushed 2 t = ((cfg0.win 2).blk t).view.read (Elt F) (accum m c) := by
  have hN : cfg0.N = 5 := N_0
  have h4 : t.val = 4 := by
    have := (flush0_2 t).mp hf
    have := t.isLt
    omega
  obtain rfl : t = t0_4 := Fin.ext h4
  show (cfg0.win 2).cut (grid0.coords t0_4) ((dats m 0 c).after 2 t0_4) = _
  rw [after0_2, staged_eq]
  have hz : (fun a => win0_2.index t0_4 a * main_call0_v0.ty.shape.size a) = fun _ => 0 := funext fun a => by
    fin_cases a <;> decide
  exact (Memref.read_access_unit_zero (Elt F) main_call0_v0 hz (fun a => by rw [congrFun hz a]; simp) (accum m c)).symm

/-- So the accumulator array ends at the grand total. -/
theorem array_eq (c : Dev nD) : (dats m 0 c).arrAt 2 cfg0.N = accum m c :=
  (dats m 0 c).arrAt_eq_of_cover 2 (accum m c) (written m c) fun i =>
    ⟨t0_4, (flush0_2 t0_4).mpr rfl, by
      show i ∈ ((View.whole main_call0_v0).slice (win0_2.rect t0_4)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_4 0 * win0_2.size 0 ≤ (i 0 : Nat) ∧ (i 0 : Nat) < win0_2.index t0_4 0 * win0_2.size 0 + win0_2.xsize (grid0.coords t0_4) 0
        rw [show win0_2.index t0_4 0 * win0_2.size 0 = 0 from by decide +kernel, show win0_2.xsize (grid0.coords t0_4) 0 = 1 from by decide +kernel]
        omega
      | ⟨1, _⟩ =>
        show win0_2.index t0_4 1 * win0_2.size 1 ≤ (i 1 : Nat) ∧ (i 1 : Nat) < win0_2.index t0_4 1 * win0_2.size 1 + win0_2.xsize (grid0.coords t0_4) 1
        rw [show win0_2.index t0_4 1 * win0_2.size 1 = 0 from by decide +kernel, show win0_2.xsize (grid0.coords t0_4) 1 = 1 from by decide +kernel]
        omega⟩

/-- The result: the grand total over the row count. -/
abbrev result (c : Dev nD) : Buf (Elt F) ((c : Thread nD τ).loc main_v0) :=
  Host.divf (φ := .f32) (fun _ => grand m c) (constant S_ .f32 0x47C35000#32)

/-- The three lines after the pipeline leave the result buffer at it. -/
theorem tail_eq (c : Dev nD) : Pipeline.afterTail₀ cfgs (dats m) 0 (V0 m) [hostOps1] c main_v0 = result m c := by
  unfold Pipeline.afterTail₀
  have hw := Pipeline.withArrays_arr (cfgs 0).spec launch0.win.arr_inj c (V0 m c) (fun w => (dats m 0 c).arrAt w (cfgs 0).N) 2
  have hv := hw.trans (array_eq m c)
  generalize Pipeline.withArrays (cfgs 0).spec c (V0 m c) (fun w => (dats m 0 c).arrAt w (cfgs 0).N) = W at hv ⊢
  show StableHlo.after hostOps1 W (Proc.devRef .tc main_v0) = _
  after_results
  have hv' : W (Proc.devRef .tc main_call0_v0) = accum m c := hv
  show Host.divf (φ := .f32) (fun i => shapeCast S_ (W (Proc.devRef .tc main_call0_v0)) shapeCasts_S1x1_S_ i) (constant S_ .f32 0x47C35000#32) = _
  rw [hv']
  rfl

/-- The run, read: the result buffer at the grand total over the row count, the arguments unchanged. -/
theorem run : θ_run defs (onTc (τ := τ) (main (F := F))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Proof.Array

end
-- ==== Proof.Spec.lean ====
/- The mathematics of the claim, over the extended reals and free of any program: the distance from one row of the
   second array to the nearest row of the first, as the reference writes it (`nearest`) and as the kernel's block
   computes it (`fastNearest`), and the theorem that the two agree on finite rows. -/
module

public import Idealize.ShloMosaic.PureOps.Ideal.Laws

@[expose] public section

noncomputable section

namespace Cert.Proof.Spec

open Idealize.ShloMosaic

/-- The squared length of a row of 128 entries. -/
def sqNorm (v : Fin 128 → EReal) : EReal := ∑ c, v c * v c

/-- The inner product of two rows. -/
def dot (p v : Fin 128 → EReal) : EReal := ∑ c, p c * v c

/-- The distance between two rows as the reference writes it: the root of `|p|² + |v|² - 2 p·v`, cut off below at zero. -/
def dist (p v : Fin 128 → EReal) : EReal := Ideal.sqrt (max (sqNorm p + sqNorm v - 2 * dot p v) 0)

/-- The least distance from `p` to a row of `X`, starting from `⊤`. -/
def nearest (X : Fin 1024 → Fin 128 → EReal) (p : Fin 128 → EReal) : EReal :=
  (Finset.univ : Finset (Fin 1024)).fold min ⊤ fun q => dist p (X q)

/-- What the kernel's widened product holds for a query row `v` and a row `p`: 128 products with the row scaled by
    `-2`, then the row's squared length and that length's rounding remainder, each times one. -/
def score (v p : Fin 128 → EReal) : EReal :=
  ∑ c, (-2 * v c) * p c + (sqNorm v * 1 + (sqNorm v - sqNorm v) * 1)

/-- What the kernel computes for a row `p`: the least score first, then the length of `p`, the cut-off and the root
    once. -/
def fastNearest (X : Fin 1024 → Fin 128 → EReal) (p : Fin 128 → EReal) : EReal :=
  Ideal.sqrt (max ((Finset.univ : Finset (Fin 1024)).fold min ⊤ (fun q => score (X q) p) + ∑ c, 1 * (p c * p c)) 0)

/-- The root of the ideal values is monotone. -/
theorem sqrt_mono : Monotone Ideal.sqrt := by
  intro x y h
  induction x using EReal.rec with
  | bot => exact bot_le
  | top => rw [top_le_iff.mp h]
  | coe a =>
    induction y using EReal.rec with
    | bot => exact absurd h (not_le.mpr (EReal.bot_lt_coe a))
    | top => exact le_top
    | coe b =>
      have hab : a ≤ b := EReal.coe_le_coe_iff.mp h
      show (if a < 0 then (⊥ : EReal) else (Real.sqrt a : EReal)) ≤ (if b < 0 then (⊥ : EReal) else (Real.sqrt b : EReal))
      by_cases ha : a < 0
      · rw [if_pos ha]; exact bot_le
      · rw [if_neg ha, if_neg (fun hb => ha (lt_of_le_of_lt hab hb))]
        exact EReal.coe_le_coe_iff.mpr (Real.sqrt_le_sqrt hab)

/-- Adding a fixed value, cutting off at zero and taking the root is monotone. -/
theorem root_mono (P : EReal) : Monotone fun t : EReal => Ideal.sqrt (max (t + P) 0) :=
  fun _ _ h => sqrt_mono (max_le_max (add_le_add h le_rfl) le_rfl)

/-- So it may be taken after a minimum from `⊤` instead of before it, the fixed value being finite. -/
theorem root_fold {ι : Type} (s : Finset ι) (f : ι → EReal) (P : ℝ) :
    s.fold min ⊤ (fun q => Ideal.sqrt (max (f q + (P : EReal)) 0))
      = Ideal.sqrt (max (s.fold min ⊤ f + (P : EReal)) 0) := by
  have h := Finset.fold_hom (op := min) (op' := min) (b := (⊤ : EReal)) (s := s) (f := f)
    (m := fun t : EReal => Ideal.sqrt (max (t + (P : EReal)) 0)) fun x y => (root_mono (P : EReal)).map_min
  rw [← h]
  have ht : Ideal.sqrt (max ((⊤ : EReal) + (P : EReal)) 0) = ⊤ := by
    rw [EReal.top_add_coe, max_eq_left le_top]; rfl
  rw [ht]

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The squared length of a row of reals is real. -/
theorem sqNorm_coe (v : Fin 128 → ℝ) : sqNorm (fun c => (v c : EReal)) = ((∑ c, v c * v c : ℝ) : EReal) := by
  unfold sqNorm; rw [coe_sum]; simp only [EReal.coe_mul]

/-- So is the inner product of two. -/
theorem dot_coe (p v : Fin 128 → ℝ) :
    dot (fun c => (p c : EReal)) (fun c => (v c : EReal)) = ((∑ c, p c * v c : ℝ) : EReal) := by
  unfold dot; rw [coe_sum]; simp only [EReal.coe_mul]

/-- The score of two rows of reals: the squared length of the query less twice the inner product. -/
theorem score_coe (v p : Fin 128 → ℝ) :
    score (fun c => (v c : EReal)) (fun c => (p c : EReal)) = ((∑ c, v c * v c - 2 * ∑ c, p c * v c : ℝ) : EReal) := by
  unfold score
  rw [sqNorm_coe]
  have h2 : (-2 : EReal) = ((-2 : ℝ) : EReal) := rfl
  have h1 : (1 : EReal) = ((1 : ℝ) : EReal) := rfl
  simp only [h2, h1, ← EReal.coe_mul, ← coe_sum, ← EReal.coe_sub, ← EReal.coe_add]
  congr 1
  have : ∑ c, -2 * v c * p c = -2 * ∑ c, p c * v c := by
    rw [Finset.mul_sum]; exact Finset.sum_congr rfl fun c _ => by ring
  rw [this]; ring

/-- The score plus the other row's squared length is the squared distance the reference takes the root of. -/
theorem score_add (v p : Fin 128 → ℝ) :
    score (fun c => (v c : EReal)) (fun c => (p c : EReal)) + ((∑ c, p c * p c : ℝ) : EReal)
      = sqNorm (fun c => (p c : EReal)) + sqNorm (fun c => (v c : EReal))
          - 2 * dot (fun c => (p c : EReal)) (fun c => (v c : EReal)) := by
  rw [score_coe, sqNorm_coe, sqNorm_coe, dot_coe]
  have h2 : (2 : EReal) = ((2 : ℝ) : EReal) := rfl
  rw [h2, ← EReal.coe_mul, ← EReal.coe_add, ← EReal.coe_add, ← EReal.coe_sub]
  congr 1; ring

/-- On finite rows the kernel's order of operations gives the reference's nearest distance. -/
theorem fastNearest_eq (X : Fin 1024 → Fin 128 → EReal) (p : Fin 128 → EReal)
    (hX : ∀ q c, ∃ r : ℝ, X q c = (r : EReal)) (hp : ∀ c, ∃ r : ℝ, p c = (r : EReal)) :
    fastNearest X p = nearest X p := by
  choose x hx using hX
  choose y hy using hp
  obtain rfl : X = fun q c => (x q c : EReal) := funext fun q => funext fun c => hx q c
  obtain rfl : p = fun c => (y c : EReal) := funext hy
  unfold fastNearest nearest dist
  have hs : (∑ c, 1 * ((y c : EReal) * (y c : EReal))) = ((∑ c, y c * y c : ℝ) : EReal) := by
    rw [coe_sum]; simp only [one_mul, EReal.coe_mul]
  rw [hs, ← root_fold]
  exact Finset.fold_congr fun q _ => by rw [score_add]

end Cert.Proof.Spec

end
-- ==== Proof.Consts.lean ====
/- The constants of the two programs as extended reals. -/
module

public import Idealize.ShloMosaic.PureOps.Ideal.Laws

@[expose] public section

noncomputable section

namespace Cert.Proof.Consts

open Idealize.ShloMosaic

/-- The pattern of `-2.0`. -/
theorem neg_two : Ideal.ofBits .f32 0xC0000000#32 = -2 := by
  have h : Ideal.ofBits .f32 0xC0000000#32 = ((-2 : ℝ) : EReal) := by
    simp [Ideal.ofBits, Ideal.ieee]
    rw [← EReal.coe_mul]
    norm_num
  rw [h]; rfl

/-- The pattern of `2.0`. -/
theorem two : Ideal.ofBits .f32 0x40000000#32 = 2 := by
  have h : Ideal.ofBits .f32 0x40000000#32 = ((2 : ℝ) : EReal) := by
    simp [Ideal.ofBits, Ideal.ieee]
    rw [← EReal.coe_mul]
    norm_num
  rw [h]; rfl

/-- The pattern of `1.0`. -/
theorem one : Ideal.ofBits .f32 0x3F800000#32 = 1 := by
  have h : Ideal.ofBits .f32 0x3F800000#32 = ((1 : ℝ) : EReal) := by
    simp [Ideal.ofBits, Ideal.ieee]
    rw [← EReal.coe_mul]
    norm_num
  rw [h]; rfl

/-- The eight-bit pattern of `1.0`. -/
theorem one_fp8 : Ideal.ofBits .fp8e4m3 0x38#8 = 1 := by
  have h : Ideal.ofBits .fp8e4m3 0x38#8 = ((1 : ℝ) : EReal) := by
    simp [Ideal.ofBits, Ideal.e4m3fn]
    rw [← EReal.coe_mul]
    norm_num
  rw [h]; rfl

/-- The pattern of positive infinity. -/
theorem inf : Ideal.ofBits .f32 0x7F800000#32 = ⊤ := by
  simp [Ideal.ofBits, Ideal.ieee]

end Cert.Proof.Consts

end
-- ==== Proof.Block.lean ====
/- What one block of the kernel computes at the ideal values: the body's whole arithmetic, applied to the first
   array, one block of 20000 rows of the second and the running total, is the total plus the sum over the block's
   rows of `Spec.fastNearest`. The stages are read one at a time: the two widened operands, their product, the
   least score of each column, the rows' squared lengths, the root and the sum. -/
module

public import proofs.«01_k».proof.Proof.Gen.KernelIdeal.Skeleton
public import proofs.«01_k».proof.Proof.Spec
public import proofs.«01_k».proof.Proof.Consts
public import Idealize.ShloMosaic.Lib.Pipeline.Value
public import Idealize.ShloMosaic.Lib.ValueIdx
public import Idealize.ShloMosaic.PureOps.Ideal.Laws

@[expose] public section

noncomputable section

namespace Cert.Proof.Block

open Cert.KernelIdeal Cert.KernelIdeal.Gen Idealize.ShloMosaic Idealize.ShloMosaic.ValueIdx
open Cert.Proof

variable (x : FVec Ideal S1024x128 .f32) (p : FVec Ideal S20000x128 .f32)

/-- Row `q` of the first array. -/
abbrev xrow (q : Fin 1024) : Fin 128 → EReal := fun c => x (ix2 q c)

/-- Row `j` of the block. -/
abbrev prow (j : Fin 20000) : Fin 128 → EReal := fun c => p (ix2 j c)

/-- The squared lengths of the first array's rows, as a column. -/
def norms : FVec Ideal S1024x1 .f32 :=
  shapeCast S1024x1 (multiReduction .add [1] S1024 (mulf x x) 0x00000000#32 reduces_S1024x128_S1024 (.inl rfl) rfl) shapeCasts_S1024_S1024x1

/-- Entry `q` of the column is the squared length of row `q`. -/
theorem norms_apply (i : S1024x1.Idx) : norms x i = Spec.sqNorm (xrow x (i 0)) := by
  unfold norms
  rw [shapeCast_apply _ shapeCasts_S1024_S1024x1 i (ix1 (i 0)) (by
    have h1 : (i 1).val = 0 := by have : (i 1).val < 1 := (i 1).isLt; omega
    rw [Shape.rowMajor_val_one, Shape.rowMajor_val_two, h1]
    show (i 0).val = (i 0).val * 1 + 0
    omega)]
  refine (Ideal.multiReduction_add_single _ _ _ _ _ _).trans ?_
  refine Finset.sum_congr rfl fun k _ => ?_
  have e : reduces_S1024x128_S1024.lift (ix1 (i 0)) k = ix2 (i 0) k := funext fun a => Fin.ext (by match a with | ⟨0, _⟩ => rfl | ⟨1, _⟩ => rfl)
  rw [e]; rfl

/-- The widened first operand: the rows scaled by `-2`, their squared lengths, and what the narrowing of those leaves. -/
def lhs : FVec Ideal S1024x130 .fp8e4m3 :=
  concatenate S1024x130 1 [⟨S1024x128, truncf .fp8e4m3 (mulf (broadcast S1024x128 (Scalar.ofBits .f32 0xC0000000#32 : Ideal .f32)) x) bitsLt_fp8e4m3_f32⟩,
    ⟨S1024x1, truncf .fp8e4m3 (norms x) bitsLt_fp8e4m3_f32⟩,
    ⟨S1024x1, truncf .fp8e4m3 (subf (norms x) (extf .f32 (truncf .fp8e4m3 (norms x) bitsLt_fp8e4m3_f32) bitsLt_fp8e4m3_f32)) bitsLt_fp8e4m3_f32⟩]
    concatenates_S1024x128_S1024x1_S1024x1_S1024x130_d1

/-- Its first 128 columns. -/
theorem lhs_main (q : Fin 1024) (c : Fin 128) : lhs x (ix2 q ⟨c.val, by omega⟩) = -2 * x (ix2 q c) := by
  unfold lhs
  rw [concatenate_apply_piece (t := S1024x130) 1 _ _ _ 0 (by exact (by decide : 0 < 3)) S1024x128 _ rfl rfl 0 rfl (ix2 q c)
    (fun b hb => by match b with | ⟨0, _⟩ => rfl | ⟨1, _⟩ => exact absurd rfl hb) (Nat.zero_add _)]
  show Ideal.ofBits .f32 0xC0000000#32 * _ = _
  rw [Consts.neg_two]

/-- Its column 128: the squared length. -/
theorem lhs_norm (q : Fin 1024) : lhs x (ix2 q (128 : Fin 130)) = Spec.sqNorm (xrow x q) := by
  unfold lhs
  rw [concatenate_apply_piece (t := S1024x130) 1 _ _ _ 1 (by exact (by decide : 1 < 3)) S1024x1 _ rfl rfl 128 rfl (ix2 q (0 : Fin 1))
    (fun b hb => by match b with | ⟨0, _⟩ => rfl | ⟨1, _⟩ => exact absurd rfl hb) rfl]
  exact norms_apply x _

/-- Its column 129: the squared length less itself. -/
theorem lhs_rest (q : Fin 1024) :
    lhs x (ix2 q (129 : Fin 130)) = Spec.sqNorm (xrow x q) - Spec.sqNorm (xrow x q) := by
  unfold lhs
  rw [concatenate_apply_piece (t := S1024x130) 1 _ _ _ 2 (by exact (by decide : 2 < 3)) S1024x1 _ rfl rfl 129 rfl (ix2 q (0 : Fin 1))
    (fun b hb => by match b with | ⟨0, _⟩ => rfl | ⟨1, _⟩ => exact absurd rfl hb) rfl]
  show norms x _ - norms x _ = _
  rw [norms_apply]

/-- The widened second operand: the block's rows and two columns of ones. -/
def rhs : FVec Ideal S20000x130 .fp8e4m3 :=
  concatenate S20000x130 1 [⟨S20000x128, truncf .fp8e4m3 p bitsLt_fp8e4m3_f32⟩,
    ⟨S20000x2, broadcast S20000x2 (Scalar.ofBits .fp8e4m3 0x38#8 : Ideal .fp8e4m3)⟩] concatenates_S20000x128_S20000x2_S20000x130_d1

/-- Its first 128 columns. -/
theorem rhs_main (j : Fin 20000) (c : Fin 128) : rhs p (ix2 j ⟨c.val, by omega⟩) = p (ix2 j c) := by
  unfold rhs
  rw [concatenate_apply_piece (t := S20000x130) 1 _ _ _ 0 (by exact (by decide : 0 < 2)) S20000x128 _ rfl rfl 0 rfl (ix2 j c)
    (fun b hb => by match b with | ⟨0, _⟩ => rfl | ⟨1, _⟩ => exact absurd rfl hb) (Nat.zero_add _)]
  rfl

/-- Its last two columns hold one. -/
theorem rhs_one (j : Fin 20000) (e : Fin 2) : rhs p (ix2 j ⟨128 + e.val, by omega⟩) = 1 := by
  unfold rhs
  rw [concatenate_apply_piece (t := S20000x130) 1 _ _ _ 1 (by exact (by decide : 1 < 2)) S20000x2 _ rfl rfl 128 rfl (ix2 j e)
    (fun b hb => by match b with | ⟨0, _⟩ => rfl | ⟨1, _⟩ => exact absurd rfl hb) rfl]
  exact Consts.one_fp8

/-- The widened product. -/
def prod : FVec Ideal S1024x20000 .f32 :=
  matmul dot_S1024x130_S20000x130_S1024x20000_1_1_0_0_n_n none (lhs x) (rhs p) (constant S1024x20000 .f32 0x00000000#32)

/-- The product at `(q, j)` is the sum over the 130 columns. -/
theorem prod_sum (q : Fin 1024) (j : Fin 20000) :
    prod x p (ix2 q j) = ∑ k : Fin 130, lhs x (ix2 q k) * rhs p (ix2 j k) := by
  unfold prod
  generalize lhs x = l
  generalize rhs p = r
  simp only [matmul]
  rw [Ideal.matmul_constant_zero_apply,
    ← Equiv.sum_comp (contrEquiv1 dot_S1024x130_S20000x130_S1024x20000_1_1_0_0_n_n 130 rfl rfl).symm]
  refine Finset.sum_congr rfl fun k _ => ?_
  have hk := contrEquiv1_symm_val dot_S1024x130_S20000x130_S1024x20000_1_1_0_0_n_n 130 rfl rfl k
  generalize (contrEquiv1 dot_S1024x130_S20000x130_S1024x20000_1_1_0_0_n_n 130 rfl rfl).symm k = u at hk ⊢
  have el : dot_S1024x130_S20000x130_S1024x20000_1_1_0_0_n_n.lhsIdx (ix2 q j) u = ix2 q k := funext fun a => Fin.ext (by
    match a with
    | ⟨0, _⟩ => rfl
    | ⟨1, _⟩ => exact hk)
  have er : dot_S1024x130_S20000x130_S1024x20000_1_1_0_0_n_n.rhsIdx (ix2 q j) u = ix2 j k := funext fun a => Fin.ext (by
    match a with
    | ⟨0, _⟩ => rfl
    | ⟨1, _⟩ => exact hk)
  rw [el, er]

/-- So it is the score of row `q` of the first array and row `j` of the block. -/
theorem prod_apply (q : Fin 1024) (j : Fin 20000) :
    prod x p (ix2 q j) = Spec.score (xrow x q) (prow p j) := by
  rw [prod_sum]
  have h := Fin.sum_univ_add (a := 128) (b := 2) fun k : Fin (128 + 2) => lhs x (ix2 q k) * rhs p (ix2 j k)
  refine h.trans ?_
  unfold Spec.score
  rw [Fin.sum_univ_two]
  refine congrArg₂ (· + ·) (Finset.sum_congr rfl fun c _ => ?_) ?_
  · exact congrArg₂ (· * ·) (lhs_main x q c) (rhs_main p j c)
  · exact congrArg₂ (· + ·) (congrArg₂ (· * ·) (lhs_norm x q) (rhs_one p j 0))
      (congrArg₂ (· * ·) (lhs_rest x q) (rhs_one p j 1))

/-- The least score of each of the block's rows. -/
def least : FVec Ideal S20000 .f32 :=
  multiReduction .minimumf [0] S20000 (prod x p) 0x7F800000#32 reduces_S1024x20000_S20000 (.inl rfl) rfl

/-- The least score of row `j`: the minimum from `⊤` over the first array's rows. -/
theorem least_apply (j : Fin 20000) :
    least x p (ix1 j) = (Finset.univ : Finset (Fin 1024)).fold min ⊤ fun q => Spec.score (xrow x q) (prow p j) := by
  unfold least
  refine (multiReduction_minimumf_eq_fold _ _ _ _ _ _).trans ?_
  refine (reduces_S1024x20000_S20000.fold_filter_drop_single _ _ _ _).trans ?_
  show (Finset.univ : Finset (Fin 1024)).fold min (Ideal.ofBits .f32 0x7F800000#32) _ = _
  rw [Consts.inf]
  refine Finset.fold_congr fun q _ => ?_
  have e : reduces_S1024x20000_S20000.lift (ix1 j) q = ix2 q j := funext fun a => Fin.ext (by match a with | ⟨0, _⟩ => rfl | ⟨1, _⟩ => rfl)
  exact (congrArg (prod x p) e).trans (prod_apply x p q j)

/-- The squared lengths of the block's rows, as the product of a row of ones with the squared entries. -/
def lengths : FVec Ideal S1x20000 .f32 :=
  matmul dot_S1x128_S20000x128_S1x20000_1_1_0_0_n_n none (broadcast S1x128 (Scalar.ofBits .f32 0x3F800000#32 : Ideal .f32)) (mulf p p)
    (constant S1x20000 .f32 0x00000000#32)

/-- The entry for row `j`. -/
theorem lengths_apply (j : Fin 20000) : lengths p (ix2 (0 : Fin 1) j) = ∑ c, 1 * (prow p j c * prow p j c) := by
  unfold lengths
  simp only [matmul]
  rw [Ideal.matmul_constant_zero_apply,
    ← Equiv.sum_comp (contrEquiv1 dot_S1x128_S20000x128_S1x20000_1_1_0_0_n_n 128 rfl rfl).symm]
  refine Finset.sum_congr rfl fun k _ => ?_
  have hk := contrEquiv1_symm_val dot_S1x128_S20000x128_S1x20000_1_1_0_0_n_n 128 rfl rfl k
  generalize (contrEquiv1 dot_S1x128_S20000x128_S1x20000_1_1_0_0_n_n 128 rfl rfl).symm k = u at hk ⊢
  have er : dot_S1x128_S20000x128_S1x20000_1_1_0_0_n_n.rhsIdx (ix2 (0 : Fin 1) j) u = ix2 j k := funext fun a => Fin.ext (by
    match a with
    | ⟨0, _⟩ => rfl
    | ⟨1, _⟩ => exact hk)
  rw [er]
  show Ideal.ofBits .f32 0x3F800000#32 * (p (ix2 j k) * p (ix2 j k)) = _
  rw [Consts.one]

/-- The distances of the block's rows. -/
def dists : FVec Ideal S1x20000 .f32 :=
  sqrt (maximumf (addf (shapeCast S1x20000 (least x p) shapeCasts_S20000_S1x20000) (lengths p))
    (broadcast S1x20000 (Scalar.ofBits .f32 0x00000000#32 : Ideal .f32)))

/-- The least scores laid as a row. -/
theorem least_row (j : Fin 20000) :
    shapeCast S1x20000 (least x p) shapeCasts_S20000_S1x20000 (ix2 (0 : Fin 1) j) = least x p (ix1 j) := by
  generalize least x p = l
  refine shapeCast_apply _ _ _ (ix1 j) ?_
  rw [Shape.rowMajor_val_one, Shape.rowMajor_val_two]
  show j.val = 0 * 20000 + j.val
  omega

/-- The root of a clamped sum at one index. -/
theorem sqrt_max_apply {s : Shape} (a b : FVec Ideal s .f32) (z : Ideal .f32) (i : s.Idx) :
    sqrt (maximumf (addf a b) (broadcast s z)) i = Ideal.sqrt (max (a i + b i) z) := rfl

/-- The distance of row `j` is `Spec.fastNearest`. -/
theorem dists_apply (j : Fin 20000) :
    dists x p (ix2 (0 : Fin 1) j) = Spec.fastNearest (xrow x) (prow p j) := by
  unfold dists Spec.fastNearest
  rw [sqrt_max_apply, least_row, least_apply, lengths_apply]
  rw [show (Scalar.ofBits .f32 0x00000000#32 : Ideal .f32) = 0 from Ideal.ofBits_zero_f32]

/-- The sum of the block's distances, as the body takes it. -/
def total : Ideal .f32 :=
  extractAt ![0, 0, 0] (shapeCast S1x1x1 (multiReduction .add [1, 2] S1 (shapeCast S1x1x20000 (dists x p) shapeCasts_S1x20000_S1x1x20000)
    0x00000000#32 reduces_S1x1x20000_S1 (.inl rfl) rfl) shapeCasts_S1_S1x1x1) inpos_S1x1x1_p0_0_0

/-- The indices of a `1 × 1 × 20000` array are its last coordinates. -/
def lastEquiv : Fin 20000 ≃ S1x1x20000.Idx where
  toFun j := ix3 (0 : Fin 1) (0 : Fin 1) j
  invFun i := i 2
  left_inv _ := rfl
  right_inv i := by
    rw [eq_ix3 i]
    have h0 : i 0 = (0 : Fin 1) := Subsingleton.elim (α := Fin 1) _ _
    have h1 : i 1 = (0 : Fin 1) := Subsingleton.elim (α := Fin 1) _ _
    rw [h0, h1]
    rfl

/-- It is the sum over the block's rows. -/
theorem total_eq : total x p = ∑ j : Fin 20000, Spec.fastNearest (xrow x) (prow p j) := by
  unfold total extractAt
  rw [shapeCast_apply _ shapeCasts_S1_S1x1x1 _ (ix1 (0 : Fin 1)) (by
    rw [Shape.rowMajor_val_one, Shape.rowMajor_val_three]; rfl)]
  refine (Ideal.multiReduction_add_total _ _ _ (by decide) _ _ _).trans ?_
  rw [← Equiv.sum_comp lastEquiv]
  refine Finset.sum_congr rfl fun j _ => ?_
  rw [shapeCast_apply _ shapeCasts_S1x20000_S1x1x20000 (lastEquiv j) (ix2 (0 : Fin 1) j) (by
    rw [Shape.rowMajor_val_two, Shape.rowMajor_val_three]
    show 0 * 20000 + j.val = (0 * 1 + 0) * 20000 + j.val
    omega)]
  exact dists_apply x p j

/-- The body's arithmetic: the running total plus the sum over the block's rows. -/
theorem payload_eq (v : Ideal .f32) :
    k0_pay1 (F := Ideal) x p v = v + ∑ j : Fin 20000, Spec.fastNearest (xrow x) (prow p j) := by
  rw [← total_eq]
  unfold k0_pay1 total dists lengths least prod lhs rhs norms
  rfl

end Cert.Proof.Block

end
-- ==== Proof.Grand.lean ====
/- The kernel's grand total at the ideal values, in terms of the argument arrays: the five blocks are the consecutive
   runs of 20000 rows of the second array, so the total is the sum of `Spec.fastNearest` over all its rows. -/
module

public import proofs.«01_k».proof.Proof.Array
public import proofs.«01_k».proof.Proof.Block

@[expose] public section

noncomputable section

namespace Cert.Proof.Grand

open Cert.KernelIdeal Cert.KernelIdeal.Gen Idealize.ShloMosaic Idealize.ShloMosaic.TcCoe Idealize.ShloMosaic.ValueIdx
open Cert.Proof

variable (m : (ℓ : Loc nD τ sig) → Buf (Elt Ideal) ℓ) (c : Dev nD)

/-- The first argument. -/
abbrev xs : FVec Ideal S1024x128 .f32 := m ((c : Thread nD τ).loc main_arg0)

/-- The second argument. -/
abbrev ps : FVec Ideal S100000x128 .f32 := m ((c : Thread nD τ).loc main_arg1)

/-- Row `q` of the first argument. -/
abbrev xrow (q : Fin 1024) : Fin 128 → EReal := fun e => xs m c (ix2 q e)

/-- Row `k` of the second argument. -/
abbrev prow (k : Fin 100000) : Fin 128 → EReal := fun e => ps m c (ix2 k e)

/-- The first window's block is the whole first argument at every point. -/
theorem block_x (t : Fin cfg0.N) (q : Fin 1024) (e : Fin 128) :
    (iblk m c 0 t : FVec Ideal S1024x128 .f32) (ix2 q e) = xs m c (ix2 q e) := by
  have hi : win0_0.index t 0 = 0 ∧ win0_0.index t 1 = 0 := by
    rcases fin_N0 t with rfl | rfl | rfl | rfl | rfl <;> decide
  unfold iblk
  rw [View.read_apply]
  show V m c main_arg0 _ = m (c.tc.loc main_arg0) _
  unfold V
  congr 1
  funext a
  apply Fin.ext
  match a with
  | ⟨0, _⟩ =>
    show win0_0.index t 0 * 1024 + 1 * q.val = q.val
    rw [hi.1]
    omega
  | ⟨1, _⟩ =>
    show win0_0.index t 1 * 128 + 1 * e.val = e.val
    rw [hi.2]
    omega

/-- Row `j` of the second window's block at point `t` is row `j + 20000 t` of the second argument. -/
theorem block_p (t : Fin cfg0.N) (j : Fin 20000) (e : Fin 128) (k : Fin 100000) (hk : k.val = j.val + 20000 * t.val) :
    (iblk m c 1 t : FVec Ideal S20000x128 .f32) (ix2 j e) = ps m c (ix2 k e) := by
  have hi : win0_1.index t 0 = t.val ∧ win0_1.index t 1 = 0 := by
    rcases fin_N0 t with rfl | rfl | rfl | rfl | rfl <;> decide
  unfold iblk
  rw [View.read_apply]
  show V m c main_arg1 _ = m (c.tc.loc main_arg1) _
  unfold V
  congr 1
  funext a
  apply Fin.ext
  match a with
  | ⟨0, _⟩ =>
    show win0_1.index t 0 * 20000 + 1 * j.val = k.val
    rw [hi.1, hk]
    omega
  | ⟨1, _⟩ =>
    show win0_1.index t 1 * 128 + 1 * e.val = e.val
    rw [hi.2]
    omega

/-- The kernel's value for one row of the second argument. -/
def term (k : Fin 100000) : EReal := Spec.fastNearest (xrow m c) (prow m c k)

/-- Row `j` of block `t`, as a row of the whole array. -/
def rowOf (t : Fin 5) (j : Fin 20000) : Fin 100000 := ⟨j.val + 20000 * t.val, by have := t.isLt; have := j.isLt; omega⟩

/-- One point adds the terms of its block to the total. -/
theorem point_eq (t : Fin cfg0.N) (s : Fin 5) (hs : s.val = t.val) (v : Ideal .f32) :
    k0_pay1 (F := Ideal) (iblk m c 0 t) (iblk m c 1 t) v = v + ∑ j : Fin 20000, term m c (rowOf s j) := by
  rw [Block.payload_eq]
  refine congrArg (v + ·) (Finset.sum_congr rfl fun j _ => ?_)
  unfold term
  have hx : Block.xrow (iblk m c 0 t) = xrow m c := funext fun q => funext fun e => block_x m c t q e
  have hp : Block.prow (iblk m c 1 t) j = prow m c (rowOf s j) := funext fun e =>
    block_p m c t j e (rowOf s j) (by show j.val + 20000 * s.val = _; rw [hs])
  rw [hx, hp]

/-- Summing block by block is summing over all rows. -/
theorem sum_blocks (f : Fin 100000 → EReal) : ∑ t : Fin 5, ∑ j : Fin 20000, f (rowOf t j) = ∑ k, f k := by
  rw [← Fintype.sum_prod_type' (fun t j => f (rowOf t j))]
  exact Equiv.sum_comp (finProdFinEquiv (m := 5) (n := 20000)) f

/-- The grand total is the sum of the terms of all rows. -/
theorem grand_eq : Array.grand m c = ∑ k : Fin 100000, term m c k := by
  rw [← sum_blocks, Fin.sum_univ_five]
  unfold Array.grand
  simp only [Array.totalAt]
  rw [point_eq m c ⟨3 + 1, _⟩ 4 rfl, point_eq m c ⟨2 + 1, _⟩ 3 rfl, point_eq m c ⟨1 + 1, _⟩ 2 rfl,
    point_eq m c ⟨0 + 1, _⟩ 1 rfl, point_eq m c ⟨0, _⟩ 0 rfl,
    show (Scalar.ofBits .f32 0x00000000#32 : Ideal .f32) = 0 from Ideal.ofBits_zero_f32, zero_add]

end Cert.Proof.Grand

end
-- ==== Proof.Ref.lean ====
/- What the reference computes at the ideal values: the sum over the second array's rows of `Spec.nearest`, over the
   row count. -/
module

public import proofs.«01_k».proof.Proof.Gen.ReferenceIdeal.Read
public import proofs.«01_k».proof.Proof.Spec
public import proofs.«01_k».proof.Proof.Consts

@[expose] public section

noncomputable section

namespace Cert.Proof.Ref

open Cert.ReferenceIdeal Cert.ReferenceIdeal.Gen Cert.ReferenceIdeal.Read Idealize.ShloMosaic Idealize.ShloMosaic.ValueIdx
open Cert.Proof

variable (x : FVec Ideal S1024x128 .f32) (p : FVec Ideal S100000x128 .f32)

/-- Row `q` of the first array. -/
abbrev xrow (q : Fin 1024) : Fin 128 → EReal := fun c => x (ix2 q c)

/-- Row `k` of the second array. -/
abbrev prow (k : Fin 100000) : Fin 128 → EReal := fun c => p (ix2 k c)

/-- The squared lengths of the first array's rows. -/
theorem x_norm (i : S1024.Idx) : val_main_v1 (F := Ideal) x i = Spec.sqNorm (xrow x (i 0)) := by
  rw [val_main_v1_apply, show val_main_cst (F := Ideal) (Shape.Idx.first h_S_) = 0 from Ideal.ofBits_zero_f32, zero_add]
  refine Finset.sum_congr rfl fun k _ => ?_
  rw [show idx_main_v1 i k = ix2 (i 0) k from funext fun a => Fin.ext (by match a with | ⟨0, _⟩ => rfl | ⟨1, _⟩ => rfl)]
  exact val_main_v0_apply (F := Ideal) x _

/-- The squared lengths of the second array's rows. -/
theorem p_norm (i : S100000.Idx) : val_main_v3 (F := Ideal) p i = Spec.sqNorm (prow p (i 0)) := by
  rw [val_main_v3_apply, show val_main_cst_0 (F := Ideal) (Shape.Idx.first h_S_) = 0 from Ideal.ofBits_zero_f32, zero_add]
  refine Finset.sum_congr rfl fun k _ => ?_
  rw [show idx_main_v3 i k = ix2 (i 0) k from funext fun a => Fin.ext (by match a with | ⟨0, _⟩ => rfl | ⟨1, _⟩ => rfl)]
  exact val_main_v2_apply (F := Ideal) p _

/-- The inner products. -/
theorem inner (k : Fin 100000) (q : Fin 1024) :
    val_main_v10 (F := Ideal) x p (ix2 k q) = Spec.dot (prow p k) (xrow x q) := by
  rw [val_main_v10_apply]
  refine Finset.sum_congr rfl fun e _ => ?_
  rw [val_main_v9_apply]
  exact congrArg₂ (fun a b => p a * x b) (funext fun a => Fin.ext (by match a with | ⟨0, _⟩ => rfl | ⟨1, _⟩ => rfl))
    (funext fun a => Fin.ext (by match a with | ⟨0, _⟩ => rfl | ⟨1, _⟩ => rfl))

/-- The sum of the two squared lengths. -/
theorem norms (k : Fin 100000) (q : Fin 1024) :
    val_main_v8 (F := Ideal) x p (ix2 k q) = Spec.sqNorm (prow p k) + Spec.sqNorm (xrow x q) := by
  rw [val_main_v8_apply, val_main_v6_apply, val_main_v4_apply, val_main_v7_apply, val_main_v5_apply, x_norm, p_norm]
  rfl

/-- Twice the inner products. -/
theorem twice (k : Fin 100000) (q : Fin 1024) :
    val_main_v12 (F := Ideal) x p (ix2 k q) = 2 * Spec.dot (prow p k) (xrow x q) := by
  rw [val_main_v12_apply, inner, val_main_v11_apply,
    show val_main_cst_1 (F := Ideal) (idx_main_v11 (ix2 k q)) = 2 from Consts.two]
  rfl

/-- The distances. -/
theorem dists (k : Fin 100000) (q : Fin 1024) :
    val_main_v16 (F := Ideal) x p (ix2 k q) = Spec.dist (prow p k) (xrow x q) := by
  rw [val_main_v16_apply, val_main_v15_apply, val_main_v13_apply, norms, twice, val_main_v14_apply,
    show val_main_cst_2 (F := Ideal) (idx_main_v14 (ix2 k q)) = 0 from Ideal.ofBits_zero_f32]
  rfl

/-- The least distance of each row. -/
theorem least (k : Fin 100000) : val_main_v17 (F := Ideal) x p (ix1 k) = Spec.nearest (xrow x) (prow p k) := by
  unfold val_main_v17 Spec.nearest
  have hd : ∀ q, val_main_v16 (F := Ideal) x p (ix2 k q) = Spec.dist (prow p k) (xrow x q) := dists x p k
  generalize val_main_v16 (F := Ideal) x p = d at hd ⊢
  have h : S100000x1024.Reduces [1] S100000 := by decide
  refine (Host.reduce_eq_fold_single (FloatOps.minimumf (F := Ideal) (φ := .f32)) d _ reducesTo_S100000x1024_S100000_d1 h h_S_ (ix1 k)).trans ?_
  rw [show val_main_cst_3 (F := Ideal) (Shape.Idx.first h_S_) = ⊤ from Consts.inf]
  refine Finset.fold_congr fun q _ => ?_
  have e : h.lift (ix1 k) q = ix2 k q := funext fun a => Fin.ext (by match a with | ⟨0, _⟩ => rfl | ⟨1, _⟩ => rfl)
  exact (congrArg d e).trans (hd q)

/-- The indices of a one-axis array are its coordinates. -/
def rowEquiv : Fin 100000 ≃ S100000.Idx where
  toFun k := ix1 k
  invFun i := i 0
  left_inv _ := rfl
  right_inv i := (eq_ix1 i).symm

/-- The sum of the least distances. -/
theorem total (i : S_.Idx) : val_main_v18 (F := Ideal) x p i = ∑ k : Fin 100000, Spec.nearest (xrow x) (prow p k) := by
  have hl : ∀ k, val_main_v17 (F := Ideal) x p (rowEquiv k) = Spec.nearest (xrow x) (prow p k) := least x p
  rw [val_main_v18_apply, show val_main_cst_4 (F := Ideal) (Shape.Idx.first h_S_) = 0 from Ideal.ofBits_zero_f32, zero_add,
    ← Equiv.sum_comp rowEquiv]
  generalize val_main_v17 (F := Ideal) x p = d at hl ⊢
  exact Finset.sum_congr rfl fun k _ => hl k

/-- The reference's result: that sum over the row count. -/
theorem result (i : S_.Idx) : val_main_v19 (F := Ideal) x p i
    = FloatOps.hostDivf (F := Ideal) (φ := .f32) (∑ k : Fin 100000, Spec.nearest (xrow x) (prow p k)) (FloatOps.ofBits (F := Ideal) .f32 0x47C35000#32) := by
  rw [val_main_v19_apply, total, val_main_cst_5_apply]

end Cert.Proof.Ref

end
-- ==== Proof.Equation.lean ====
/- The equation of the value claim: on finite arrays the kernel's result is the reference's. -/
module

public import proofs.«01_k».proof.Proof.Grand
public import proofs.«01_k».proof.Proof.Ref

@[expose] public section

noncomputable section

namespace Cert.Proof.Equation

open Cert.KernelIdeal Cert.KernelIdeal.Gen Idealize.ShloMosaic Idealize.ShloMosaic.TcCoe Idealize.ShloMosaic.ValueIdx
open Cert.Proof

variable (m : (ℓ : Loc nD τ sig) → Buf (Elt Ideal) ℓ) (c : Dev nD)

/-- On finite arrays the grand total is the sum of the least distances. -/
theorem grand_nearest (hx : ∀ i, ∃ r : ℝ, (Grand.xs m c i : EReal) = r) (hp : ∀ i, ∃ r : ℝ, (Grand.ps m c i : EReal) = r) :
    Array.grand m c = ∑ k : Fin 100000, Spec.nearest (Grand.xrow m c) (Grand.prow m c k) := by
  rw [Grand.grand_eq]
  exact Finset.sum_congr rfl fun k _ =>
    Spec.fastNearest_eq (Grand.xrow m c) (Grand.prow m c k) (fun q e => hx (ix2 q e)) (fun e => hp (ix2 k e))

/-- On finite arrays the kernel's result is the reference's value of the same arrays. -/
theorem result_eq (hx : ∀ i, ∃ r : ℝ, (Grand.xs m c i : EReal) = r) (hp : ∀ i, ∃ r : ℝ, (Grand.ps m c i : EReal) = r) :
    Cert.ReferenceIdeal.Read.val_main_v19 (F := Ideal) (Grand.xs m c) (Grand.ps m c) = Array.result m c := by
  funext i
  refine (Ref.result (Grand.xs m c) (Grand.ps m c) i).trans ?_
  rw [← grand_nearest m c hx hp]
  rfl

end Cert.Proof.Equation

end
-- ==== Proof.Finite.lean ====
/- What the precondition says at the ideal values: every entry of both arrays is a real number. -/
module

public import proofs.«01_k».proof.Pre_finite
public import proofs.«01_k».proof.Proof.Consts
public import Idealize.ShloMosaic.Lib.Pipeline.Value

@[expose] public section

noncomputable section

namespace Cert.Proof.Finite

open Cert.Pre_finite Idealize.ShloMosaic

/-- The two shape conditions the precondition states. -/
theorem facts : Cert.Pre_finite.Facts := ⟨by decide, by decide⟩

/-- A value whose larger sign is below `⊤` is a real number. -/
theorem real_of_abs_lt (a : EReal) (h : max a (-a) < ⊤) : ∃ r : ℝ, a = r := by
  induction a using EReal.rec with
  | bot => simp at h
  | top => simp at h
  | coe r => exact ⟨r, rfl⟩

/-- A comparison of a magnitude with infinity that answers one. -/
theorem real_of_cmp (a : EReal) (h : Ideal.cmp .olt (max a (-a)) ⊤ = 1#1) : ∃ r : ℝ, a = r := by
  refine real_of_abs_lt a ?_
  by_contra hn
  have hc : Ideal.cmp .olt (max a (-a)) ⊤ = BitVec.ofBool (decide (max a (-a) < ⊤)) := rfl
  rw [hc, decide_eq_false hn] at h
  exact absurd h (by decide)

/-- The compared array reads, at an index, as the comparison of the entry's magnitude with infinity. -/
theorem compared {s : Shape} (hb : S_.BroadcastsInDim s (![] : Fin 0 → Fin s.rank)) (v : FVec Ideal s .f32) (i : s.Idx) :
    cmpf .olt (Host.absf v) (broadcastInDim s ![] hb (constant (F := Ideal) S_ .f32 0x7F800000#32)) i = Ideal.cmp .olt (max (v i) (-(v i))) ⊤ := by
  have hk : broadcastInDim s ![] hb (constant (F := Ideal) S_ .f32 0x7F800000#32) i = (⊤ : EReal) :=
    (broadcastInDim_apply _ hb (constant (F := Ideal) S_ .f32 0x7F800000#32) i (fun a => a.elim0) (fun a => a.elim0)).trans Consts.inf
  show Ideal.cmp .olt (max (v i) (-(v i))) _ = _
  rw [hk]

variable [Cert.Pre_finite.Facts]

/-- Under the precondition every entry of the first array is real. -/
theorem first (x : FVec Ideal S1024x128 .f32) (p : FVec Ideal S100000x128 .f32) (h : (fn (F := Ideal) x p).1 = fun _ => 1#1)
    (i : S1024x128.Idx) : ∃ r : ℝ, (x i : EReal) = r :=
  real_of_cmp (x i) ((compared Facts.bcast_S_S1024x128 x i).symm.trans (congrFun h i))

/-- Under the precondition every entry of the second array is real. -/
theorem second (x : FVec Ideal S1024x128 .f32) (p : FVec Ideal S100000x128 .f32) (h : (fn (F := Ideal) x p).2 = fun _ => 1#1)
    (i : S100000x128.Idx) : ∃ r : ℝ, (p i : EReal) = r :=
  real_of_cmp (p i) ((compared Facts.bcast_S_S100000x128 p i).symm.trans (congrFun h i))

end Cert.Proof.Finite

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Equation
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged and every counter ends at zero. -/
theorem reference_quiet (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

attribute [local instance] Finite.facts in
/-- The value claim: on finite arrays both programs end with the same result. -/
theorem value : Cert.algebraic_KernelIdeal_ReferenceIdeal_pre_finite := by
  intro m g m' g' hpre hargs
  refine ⟨fun c => Array.result m c, Array.run m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v19_eq _ _).trans ?_)
  have h0 := (hargs c).1
  have h1 := (hargs c).2
  rw [h0, h1]
  exact Equation.result_eq m c (Finite.first _ _ (hpre c).1) (Finite.second _ _ (hpre c).2)

/-- Everything claimed. -/
theorem claim : Cert.Claim :=
  ⟨Cert.Kernel.Gen.facts, Cert.KernelIdeal.Gen.facts, Cert.ReferenceIdeal.Gen.facts, Finite.facts,
    fun m ρ _ => Cert.Kernel.Gen.frame m ρ, fun m ρ _ => Cert.KernelIdeal.Gen.frame m ρ, fun m ρ _ => Cert.KernelIdeal.Gen.frame m ρ,
    fun m ρ _ => reference_quiet m ρ, fun m ρ _ => reference_quiet m ρ, trivial, value⟩

end Cert.Proof

end
